-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_BySortIdeal (m : (ℓ : Loc Cert.BySortIdeal.nD Cert.BySortIdeal.τ Cert.BySortIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_BySortIdeal [hBySortIdeal : Cert.BySortIdeal.Facts] : Prop :=
  ∀ (m : (ℓ : Loc Cert.BySortIdeal.nD Cert.BySortIdeal.τ Cert.BySortIdeal.sig) → Buf (Elt Ideal) ℓ) (g : Dev Cert.BySortIdeal.nD → PrngReg), Pre_BySortIdeal m →
    θ_run (Cert.BySortIdeal.defs (F := Ideal)) (onTc (τ := Cert.BySortIdeal.τ) (Cert.BySortIdeal.main (F := Ideal))) ⟨m, fun _ => 0, g⟩ (fun r => (∀ c : Dev Cert.BySortIdeal.nD,
      r.2.mem ((c.tc : Thread Cert.BySortIdeal.nD Cert.BySortIdeal.τ).loc Cert.BySortIdeal.main_arg0) = m ((c.tc : Thread Cert.BySortIdeal.nD Cert.BySortIdeal.τ).loc Cert.BySortIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_BySortIdeal [hKernelIdeal : Cert.KernelIdeal.Facts] [hBySortIdeal : Cert.BySortIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.BySortIdeal.nD Cert.BySortIdeal.τ Cert.BySortIdeal.sig) → Buf (Elt Ideal) ℓ) (g' : Dev Cert.BySortIdeal.nD → PrngReg), Pre_KernelIdeal m →
    (∀ c : Dev Cert.KernelIdeal.nD,
      m' ((c.tc : Thread Cert.BySortIdeal.nD Cert.BySortIdeal.τ).loc Cert.BySortIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.BySortIdeal.defs (F := Ideal)) (onTc (τ := Cert.BySortIdeal.τ) (Cert.BySortIdeal.main (F := Ideal))) ⟨m', fun _ => 0, g'⟩ (fun r => ∀ c : Dev Cert.BySortIdeal.nD,
          r.2.mem ((c.tc : Thread Cert.BySortIdeal.nD Cert.BySortIdeal.τ).loc Cert.BySortIdeal.main_v2) = v0 c
          ∧ r.2.mem ((c.tc : Thread Cert.BySortIdeal.nD Cert.BySortIdeal.τ).loc Cert.BySortIdeal.main_arg0) = m' ((c.tc : Thread Cert.BySortIdeal.nD Cert.BySortIdeal.τ).loc Cert.BySortIdeal.main_arg0))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hBySortIdeal : Cert.BySortIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_BySortIdeal (hBySortIdeal := hBySortIdeal)
    ∧ quiescent_Reference (hReference := hReference)
    ∧ preserves_Kernel_KernelIdeal
    ∧ algebraic_KernelIdeal_BySortIdeal (hKernelIdeal := hKernelIdeal) (hBySortIdeal := hBySortIdeal)
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x4096x1024 : Shape := ⟨3, ![4, 4096, 1024]⟩
abbrev S4x1024x4096 : Shape := ⟨3, ![4, 1024, 4096]⟩
abbrev S4x1024x64 : Shape := ⟨3, ![4, 1024, 64]⟩
abbrev S4x64x1024 : Shape := ⟨3, ![4, 64, 1024]⟩

abbrev nBuf : Space → Nat
  | .hbm => 6
  | .vmem => 2
  | .smem => 0
  | _ => 0

abbrev bufTy : (tb : Table) → Fin (tcTables nBuf tb) → BufTy
  | .hbm, ⟨0, _⟩ => ⟨S4x4096x1024, .f32⟩
  | .hbm, ⟨1, _⟩ => ⟨S4x1024x4096, .f32⟩
  | .hbm, ⟨2, _⟩ => ⟨S4x1024x64, .f32⟩
  | .hbm, ⟨3, _⟩ => ⟨S4x1024x64, .i32⟩
  | .hbm, ⟨4, _⟩ => ⟨S4x64x1024, .f32⟩
  | .hbm, ⟨5, _⟩ => ⟨S4x64x1024, .f32⟩
  | .local _ .vmem, ⟨0, _⟩ => ⟨S4x64x1024, .f32⟩
  | .local _ .vmem, ⟨1, _⟩ => ⟨S4x64x1024, .f32⟩
  | _, _ => ⟨S4x4096x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_values : Ref sig .tc := ⟨.hbm, 2, rfl⟩
abbrev main_indices : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== BySortIdeal.lean ====
abbrev S4x4096x1024 : Shape := ⟨3, ![4, 4096, 1024]⟩
abbrev S4x64x1024 : Shape := ⟨3, ![4, 64, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x64x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Reference.lean ====
abbrev S4x4096x1024 : Shape := ⟨3, ![4, 4096, 1024]⟩
abbrev S4x1024x4096 : Shape := ⟨3, ![4, 1024, 4096]⟩
abbrev S4x1024x64 : Shape := ⟨3, ![4, 1024, 64]⟩
abbrev S4x64x1024 : Shape := ⟨3, ![4, 64, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024x4096, .f32⟩
  | .hbm, ⟨2, _⟩ => ⟨S4x1024x64, .f32⟩
  | .hbm, ⟨3, _⟩ => ⟨S4x1024x64, .i32⟩
  | .hbm, ⟨4, _⟩ => ⟨S4x64x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_values : Ref sig .tc := ⟨.hbm, 2, rfl⟩
abbrev main_indices : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.CopiedIdeal.lean ====
/-
  What the idealized kernel leaves in its result: its one Pallas call has no grid and copies its operand whole, so
  the result array ends at what the host operations before the call put in the operand, the 64 greatest entries of every
  column. Stated for any float values.
-/
module

public import proofs.«01_k».proof.Proof.Gen.KernelIdeal.Value
public import Idealize.ShloMosaic.Lib.StableHlo.Run

@[expose] public section

noncomputable section

namespace Cert.KernelIdeal.Copied

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The 64 greatest entries of every column of `x`, greatest first: transposed so that a column is a row, selected,
    transposed back. -/
abbrev greatest (x : Vec F S4x4096x1024 .f32) : Vec F S4x64x1024 .f32 :=
  transpose S4x64x1024 [0, 2, 1]
    (Host.topK S4x1024x64 2 (FloatOps.cmpfTotal .gt)
      (transpose S4x1024x4096 [0, 2, 1] x transposes_S4x4096x1024_S4x1024x4096_0_2_1) sliceFits_S4x1024x4096_S4x1024x64).1
    transposes_S4x1024x64_S4x64x1024_0_2_1

/-- The call's operand when the call is entered: the selection of the argument. -/
theorem operand (c : Dev nD) : V m c main_v1 = greatest (m ((c : Thread nD τ).loc main_arg0)) := by
  unfold V greatest
  simp only [hostOps0]
  after_results

theorem zero_offsets : (![0, 0, 0] : Fin 3 → Nat) = fun _ => 0 := funext fun a => by fin_cases a <;> rfl

/-- The body's payload is the vector it loaded. -/
theorem payload (v : Vec F S4x64x1024 .f32) : k0_pay1 v = v :=
  funext fun j => shapeCast_apply _ _ j j rfl

/-- The one point writes back its block of the operand. -/
theorem flushed (c : Dev nD) (t : Fin cfg0.N) :
    (dats m 0 c).flushed 1 t = (win0_1.blk t).view.read (Elt F) (V m c main_v1) := by
  rw [Value.flushed1]
  unfold out0_1
  rw [View.canon_unit_zero zero_offsets, View.ld_unit_zero zero_offsets, payload]
  rfl

/-- The one point's block is the whole result array. -/
theorem covered (i : S4x64x1024.Idx) :
    ∃ t : Fin cfg0.N, (cfg0.win 1).flush t = true ∧ i ∈ ((cfg0.win 1).blk t).view.set := by
  have t : Fin cfg0.N := ⟨0, by decide⟩
  refine ⟨t, flush0_1 t, ?_⟩
  show i ∈ ((View.whole main_v2).slice (win0_1.rect t)).set
  rw [View.set_slice_whole, Rect.mem_set_unit]
  intro a
  have h : (i a : Nat) < S4x64x1024.size a := (i a).isLt
  fin_cases a
  · exact ⟨Nat.zero_le _, h⟩
  · exact ⟨Nat.zero_le _, h⟩
  · exact ⟨Nat.zero_le _, h⟩

/-- THE RESULT ARRAY after the call is the selection of the argument. -/
theorem result (c : Dev nD) : (dats m 0 c).arrAt 1 cfg0.N = greatest (m ((c : Thread nD τ).loc main_arg0)) :=
  ((dats m 0 c).arrAt_eq_of_cover 1 (V m c main_v1) (fun t _ => flushed m c t) covered).trans (operand m c)

/-- THE RUN: every weakly fair execution ends with the result at the selection of the argument, the argument unchanged. -/
theorem run : θ_run defs (onTc (τ := τ) (main (F := F))) ⟨m, fun _ => 0, ρ⟩ fun r => ∀ c : Dev nD,
      r.2.mem ((c : Thread nD τ).loc main_v2) = greatest (m ((c : Thread nD τ).loc main_arg0))
      ∧ r.2.mem ((c : Thread nD τ).loc main_arg0) = m ((c : Thread nD τ).loc main_arg0) :=
  (θ_run defs _ _).mono (fun _ h c => ⟨(h c).1.trans (result m c), (h c).2⟩) (Value.run_blocks m ρ)

end Cert.KernelIdeal.Copied

end
-- ==== Proof.SortedEnds.lean ====
/-
  A column sorted downward is the same column sorted upward and read from its end. The two stable sorts order the
  column's positions differently where two entries are equal, so it is the entries, not the positions, that agree.
-/
module

public import Idealize.ShloMosaic.Lib.SortFacts
public import Mathlib.Data.List.FinRange
public import Mathlib.Data.List.Sort
public import Mathlib.Order.Fin.Basic

@[expose] public section

namespace Cert.Proof.SortedEnds

open Idealize.ShloMosaic

variable {α : Type} [LinearOrder α] {n : Nat}

/-- The stable sort of the positions, as a permutation of them. -/
noncomputable def order (before : Fin n → Fin n → Bool) : Equiv.Perm (Fin n) :=
  Equiv.ofBijective (sortedFrom before) ⟨sortedFrom_injective before, sortedFrom_surjective before⟩

/-- Sorted with the greater entry first, a column's entries never increase. -/
theorem antitone_greaterFirst (f : Fin n → α) (B : Fin n → Fin n → Bool) (hB : ∀ a b, B a b = true ↔ f b < f a) :
    Antitone (f ∘ order B) := by
  have hF : ∀ a b, B a b = false ↔ f a ≤ f b := fun a b => by rw [← not_lt, ← hB, Bool.not_eq_true]
  intro i j hij
  rcases hij.lt_or_eq with h | rfl
  · exact (hF _ _).mp (sortedFrom_noInversion B B (fun a b h => (hF b a).mpr ((hB a b).mp h).le) (fun _ _ h => h)
      (fun a b c hab hbc => (hF a c).mpr (((hF a b).mp hab).trans ((hF b c).mp hbc))) i j h)
  · exact le_rfl

/-- Sorted with the lesser entry first, a column's entries never decrease. -/
theorem monotone_lesserFirst (f : Fin n → α) (B : Fin n → Fin n → Bool) (hB : ∀ a b, B a b = true ↔ f a < f b) :
    Monotone (f ∘ order B) :=
  antitone_greaterFirst (α := αᵒᵈ) (fun i => OrderDual.toDual (f i)) B hB

/-- Two rearrangements of one column that never increase hold the same entries in the same places. -/
theorem eq_of_antitone (f : Fin n → α) (σ τ : Equiv.Perm (Fin n)) (hσ : Antitone (f ∘ σ)) (hτ : Antitone (f ∘ τ)) :
    f ∘ σ = f ∘ τ := by
  have falls : ∀ g : Fin n → α, Antitone g → (List.ofFn g).Pairwise (fun a b => b ≤ a) := fun g hg =>
    List.pairwise_ofFn.mpr fun _ _ h => hg h.le
  exact List.ofFn_injective <|
    List.Perm.eq_of_pairwise (fun _ _ _ _ hab hba => le_antisymm hba hab) (falls _ hσ) (falls _ hτ)
      ((σ.ofFn_comp_perm f).trans (τ.ofFn_comp_perm f).symm)

/-- THE TWO ENDS: entry `k` of the column sorted greater first is entry `k` from the end of the column sorted lesser
    first. Both are the column rearranged so as never to increase, and there is one such list of entries. -/
theorem greaterFirst_eq_lesserFirst_rev (f : Fin n → α) (G L : Fin n → Fin n → Bool)
    (hG : ∀ a b, G a b = true ↔ f b < f a) (hL : ∀ a b, L a b = true ↔ f a < f b) (k : Fin n) :
    f (sortedFrom G k) = f (sortedFrom L k.rev) := by
  have hrev : Antitone (f ∘ (Fin.revPerm.trans (order L))) := fun i j hij =>
    monotone_lesserFirst f L hL (Fin.rev_le_rev.mpr hij)
  exact congrFun (eq_of_antitone f _ _ (antitone_greaterFirst f G hG) hrev) k

end Cert.Proof.SortedEnds

end
-- ==== Proof.Columns.lean ====
/-
  The equation between the kernel's selection and the reference that sorts, over the extended reals: both, read at
  (b, r, d), are the r-th greatest entry of the column x[b, :, d].
-/
module

public import proofs.«01_k».proof.Proof.SortedEnds
public import proofs.«01_k».proof.Proof.CopiedIdeal
public import proofs.«01_k».proof.Proof.Gen.BySortIdeal.Run
public import Idealize.ShloMosaic.PureOps.Ideal.Laws

@[expose] public section

noncomputable section

namespace Cert.Proof.Columns

open Idealize.ShloMosaic Cert.Proof.SortedEnds
open Cert.KernelIdeal (S4x4096x1024 S4x64x1024 S4x1024x4096 S4x1024x64)

/-- Entry `k` of the column through result index `j`. -/
abbrev entry (j : S4x64x1024.Idx) (k : Fin 4096) : S4x4096x1024.Idx :=
  fun a => match a with | ⟨0, _⟩ => j 0 | ⟨1, _⟩ => k | ⟨2, _⟩ => j 2

/-- The column through result index `j`. -/
abbrev column (x : Vec Ideal S4x4096x1024 .f32) (j : S4x64x1024.Idx) (k : Fin 4096) : EReal := x (entry j k)

/-- The result index's place in the selection, as a place in the whole column. -/
abbrev place (j : S4x64x1024.Idx) : Fin 4096 := ⟨(j 1).val, Nat.lt_of_lt_of_le (j 1).isLt (by decide)⟩

/-- Over the extended reals the host's `gt` in the total order is the order's. -/
theorem gt_iff (a b : Ideal .f32) : (FloatOps.cmpfTotal (F := Ideal) (φ := .f32) .gt a b == 1#1) = true ↔ (b : EReal) < a := by
  rw [Ideal.cmpfTotal_def]
  show (BitVec.ofBool (decide ((b : EReal) < a)) == 1#1) = true ↔ _
  by_cases h : (b : EReal) < a <;> simp [h]

/-- Over the extended reals the sort's comparator is the order's `<`: the case that it makes of zero changes nothing,
    and no value differs from itself. -/
theorem lt_iff (a b : Ideal .f32) : ((BySortIdeal.comparator_f32_d1 (F := Ideal)) a b == 1#1) = true ↔ (a : EReal) < b := by
  have same : ∀ v : Ideal .f32, Scalar.select (FloatOps.cmpf .une v v) (FloatOps.ofBits .f32 0x7FC00000#32)
      (Scalar.select (FloatOps.cmpf .oeq v (FloatOps.ofBits .f32 0x00000000#32)) (FloatOps.ofBits .f32 0x00000000#32) v)
        = v := by
    intro v
    have hne : FloatOps.cmpf .une v v = 0#1 := by simp [Ideal.cmpf_def, Ideal.cmp]
    rw [hne]
    by_cases h : v = FloatOps.ofBits .f32 0x00000000#32
    · have he : FloatOps.cmpf .oeq v (FloatOps.ofBits .f32 0x00000000#32) = 1#1 := by
        simp [Ideal.cmpf_def, Ideal.cmp, h]
      rw [he]; exact h.symm
    · have he : FloatOps.cmpf .oeq v (FloatOps.ofBits .f32 0x00000000#32) = 0#1 := by
        rw [Ideal.cmpf_def]
        show BitVec.ofBool (decide (v = FloatOps.ofBits .f32 0x00000000#32)) = 0#1
        rw [decide_eq_false h]; rfl
      rw [he]; rfl
  show (FloatOps.cmpfTotal .lt (Scalar.select (FloatOps.cmpf .une a a) _ _) (Scalar.select (FloatOps.cmpf .une b b) _ _) == 1#1)
    = true ↔ _
  rw [same, same, Ideal.cmpfTotal_def]
  show (BitVec.ofBool (decide ((a : EReal) < b)) == 1#1) = true ↔ _
  by_cases h : (a : EReal) < b <;> simp [h]

/-- A sort of one operand along axis `d`, read at `i`, whose fiber through `i` is spelt `e`. -/
theorem sort_at {s : Shape} {α : Type} (d : Nat) (hd : d < s.rank) (cmp : α → α → BitVec 1) (x : s.Idx → α) (i : s.Idx)
    (e : Fin (s.size ⟨d, hd⟩) → s.Idx) (he : ∀ k, i.along ⟨d, hd⟩ k = e k) :
    Host.sort s d cmp x i = x (e (sortedFrom (fun k k' => cmp (x (e k)) (x (e k')) == 1#1) (i ⟨d, hd⟩))) := by
  obtain rfl : (fun k => i.along ⟨d, hd⟩ k) = e := funext he
  unfold Host.sort
  exact dif_pos hd

/-- The values of a top-k along axis `d`, read at `j` over index `i` of the operand, whose row through `i` holds `f`. -/
theorem topK_at {s t : Shape} {α : Type} (d : Nat) (hd : d < s.rank) (gt : α → α → BitVec 1) (x : s.Idx → α)
    (h : s.Slices (fun _ => 0) t) (j : t.Idx) (i : s.Idx) (hi : ∀ a, (i a).val = 0 + (j (a.cast h.1.symm)).val)
    (f : Fin (s.size ⟨d, hd⟩) → α) (hf : ∀ k, x (i.along ⟨d, hd⟩ k) = f k) :
    (Host.topK t d gt x h).1 j = f (sortedFrom (fun k k' => gt (f k) (f k') == 1#1) (i ⟨d, hd⟩)) := by
  obtain rfl : (fun k => x (i.along ⟨d, hd⟩ k)) = f := funext hf
  unfold Host.topK
  refine (extractStridedSlice_apply _ _ h j i hi).trans ?_
  unfold Host.sort2
  simp only [dif_pos hd]

/-- The kernel's selection at an index: the entry at that place of the column sorted greater first. -/
theorem greatest_apply (x : Vec Ideal S4x4096x1024 .f32) (j : S4x64x1024.Idx) :
    KernelIdeal.Copied.greatest x j
      = column x j (sortedFrom (fun k k' => FloatOps.cmpfTotal (F := Ideal) (φ := .f32) .gt (column x j k) (column x j k') == 1#1)
          (place j)) := by
  let row : S4x1024x4096.Idx := fun a => match a with | ⟨0, _⟩ => j 0 | ⟨1, _⟩ => j 2 | ⟨2, _⟩ => place j
  let cut : S4x1024x64.Idx := fun a => match a with | ⟨0, _⟩ => j 0 | ⟨1, _⟩ => j 2 | ⟨2, _⟩ => j 1
  unfold KernelIdeal.Copied.greatest
  rw [transpose_apply _ _ _ j cut (by intro a; fin_cases a <;> rfl)]
  have hd : 2 < S4x1024x4096.rank := by decide
  refine topK_at (s := S4x1024x4096) 2 hd _ _ _ cut row (by intro a; fin_cases a <;> exact (Nat.zero_add _).symm) (column x j) ?_
  intro (k : Fin 4096)
  exact transpose_apply _ _ _ _ (entry j k) (by intro a; fin_cases a <;> rfl)

/-- The reference's array at an index: the entry at that place, counted from the end, of the column sorted lesser first. -/
theorem bySort_apply (x : Vec Ideal S4x4096x1024 .f32) (j : S4x64x1024.Idx)
    (h : S4x4096x1024.Slices ![0, 0, 0] S4x64x1024) :
    extractStridedSlice S4x64x1024 ![0, 0, 0]
        (Host.reverse [1] (Host.sort S4x4096x1024 1 (BySortIdeal.comparator_f32_d1 (F := Ideal)) x)) h j
      = column x j (sortedFrom (fun k k' => BySortIdeal.comparator_f32_d1 (F := Ideal) (column x j k) (column x j k') == 1#1)
          (place j).rev) := by
  rw [extractStridedSlice_apply _ _ h j (entry j (place j)) (by intro a; fin_cases a <;> exact (Nat.zero_add _).symm)]
  refine (congrArg _ (funext fun a => ?_ : (fun a => if a ∈ ([1] : List (Fin 3)) then (entry j (place j) a).rev else entry j (place j) a)
    = entry j (place j).rev)).trans ?_
  · fin_cases a <;> rfl
  · have hd : 1 < S4x4096x1024.rank := by decide
    exact sort_at (s := S4x4096x1024) 1 hd _ x _ (entry j) fun k => by funext a; fin_cases a <;> rfl

/-- THE EQUATION: the sorting reference's array is the kernel's selection. -/
theorem bySort_eq (x : Vec Ideal S4x4096x1024 .f32) (h : S4x4096x1024.Slices ![0, 0, 0] S4x64x1024) :
    extractStridedSlice S4x64x1024 ![0, 0, 0]
        (Host.reverse [1] (Host.sort S4x4096x1024 1 (BySortIdeal.comparator_f32_d1 (F := Ideal)) x)) h
      = KernelIdeal.Copied.greatest x := by
  funext j
  rw [bySort_apply, greatest_apply]
  exact (greaterFirst_eq_lesserFirst_rev (column x j) _ _ (fun a b => gt_iff _ _) (fun a b => lt_iff _ _) (place j)).symm

end Cert.Proof.Columns

end
-- ==== Proof.lean ====
/-
  The proof of the claims. The runs come from `Proof/Copied.lean` (the kernel's result is the selection of its
  argument) and from the references' generated runs; the one equation to prove, that a column's greatest entries are
  the end of the sorted column read backwards, is `Proof/Columns.lean`'s.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.BySortIdeal
public import proofs.«01_k».proof.Proof.Gen.Reference
public import proofs.«01_k».proof.Proof.Gen.Kernel.Value
public import proofs.«01_k».proof.Proof.Gen.KernelIdeal.Value
public import proofs.«01_k».proof.Proof.Gen.Reference.Run
public import proofs.«01_k».proof.Proof.Gen.ReferenceIdeal.Run
public import proofs.«01_k».proof.Proof.Gen.BySortIdeal.Run
public import proofs.«01_k».proof.Proof.Copied
public import proofs.«01_k».proof.Proof.CopiedIdeal
public import proofs.«01_k».proof.Proof.Columns
public import Idealize.ShloMosaic.Lib.Quiescent
public import Idealize.ShloMosaic.Adequacy
public import Idealize.ShloMosaic.Init

@[expose] public section

noncomputable section

namespace Cert.Proof

open Idealize.ShloMosaic Idealize.SL.Sem

/-- The sorting reference runs, its argument unchanged, and ends with every counter zero. -/
theorem quiescentBySortIdeal : Cert.quiescent_BySortIdeal (hBySortIdeal := BySortIdeal.Gen.facts) := fun m g _ =>
  (θ_run _ _ _).mono (fun r h => ⟨fun c => (h c).2, sem_eq_zero_of_no_sems (by decide) r.2⟩) (BySortIdeal.Value.run m g)

/-- The idealized reference runs, its argument unchanged, and ends with every counter zero. -/
theorem quiescentReferenceIdeal : Cert.quiescent_ReferenceIdeal (hReferenceIdeal := ReferenceIdeal.Gen.facts) := fun m g _ =>
  (θ_run _ _ _).mono (fun r h => ⟨fun c => (h c).2, sem_eq_zero_of_no_sems (by decide) r.2⟩) (ReferenceIdeal.Value.run m g)

/-- The reference as printed runs, its argument unchanged, and ends with every counter zero. -/
theorem quiescentReference : Cert.quiescent_Reference (hReference := Reference.Gen.facts) := fun m g _ =>
  (θ_run _ _ _).mono (fun r h => ⟨fun c => (h c).2, sem_eq_zero_of_no_sems (by decide) r.2⟩) (Reference.Value.run m g)

/-- The kernel's result is the sorting reference's, over the extended reals. -/
theorem valueBySort : Cert.algebraic_KernelIdeal_BySortIdeal (hKernelIdeal := KernelIdeal.Gen.facts)
    (hBySortIdeal := BySortIdeal.Gen.facts) := by
  intro m g m' g' _ hagree
  refine ⟨_, KernelIdeal.Copied.run m g, (θ_run _ _ _).mono (fun r h c => ⟨(h c).1.trans ?_, (h c).2⟩)
    (BySortIdeal.Value.run m' g')⟩
  rw [hagree c]
  exact Columns.bySort_eq _ _

/-- The kernel's result is the given reference's, over the extended reals. -/
theorem valueReference : Cert.algebraic_KernelIdeal_ReferenceIdeal (hKernelIdeal := KernelIdeal.Gen.facts)
    (hReferenceIdeal := ReferenceIdeal.Gen.facts) := by
  intro m g m' g' _ hagree
  refine ⟨_, KernelIdeal.Copied.run m g, (θ_run _ _ _).mono (fun r h c => ⟨(h c).1.trans ?_, (h c).2⟩)
    (ReferenceIdeal.Value.run m' g')⟩
  rw [hagree c]

/-- The kernel's result is the given reference's, bit for bit. -/
theorem bitsReference : Cert.bitexact_Kernel_Reference (hKernel := Kernel.Gen.facts) (hReference := Reference.Gen.facts) := by
  intro m g m' g' _ hagree
  refine ⟨_, Kernel.Copied.run m g, (θ_run _ _ _).mono (fun r h c => ⟨(h c).1.trans ?_, (h c).2⟩)
    (Reference.Value.run m' g')⟩
  rw [hagree c]

theorem claim : Cert.Claim :=
  ⟨Kernel.Gen.facts, KernelIdeal.Gen.facts, ReferenceIdeal.Gen.facts, BySortIdeal.Gen.facts, Reference.Gen.facts,
    fun m g _ => Kernel.Gen.frame m g, fun m g _ => KernelIdeal.Gen.frame m g,
    quiescentReferenceIdeal, quiescentBySortIdeal, quiescentReference, trivial, valueBySort, valueReference, bitsReference⟩

end Cert.Proof

end
